-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8192 : Shape := ⟨3, ![8, 1, 8192]⟩
abbrev S32768x4096 : Shape := ⟨2, ![32768, 4096]⟩
abbrev S32768x32 : Shape := ⟨2, ![32768, 32]⟩
abbrev S32768x256 : Shape := ⟨2, ![32768, 256]⟩
abbrev S8x128x2x32 : Shape := ⟨4, ![8, 128, 2, 32]⟩
abbrev S8x128x32x2 : Shape := ⟨4, ![8, 128, 32, 2]⟩
abbrev S8x4096x1x2 : Shape := ⟨4, ![8, 4096, 1, 2]⟩
abbrev S4x4 : Shape := ⟨2, ![4, 4]⟩
abbrev S_ : Shape := ⟨0, ![]⟩
abbrev S1x8x4096x1x2 : Shape := ⟨5, ![1, 8, 4096, 1, 2]⟩
abbrev S4x1x1x4x1 : Shape := ⟨5, ![4, 1, 1, 4, 1]⟩
abbrev S4x8x4096x4x2 : Shape := ⟨5, ![4, 8, 4096, 4, 2]⟩
abbrev S32x32768 : Shape := ⟨2, ![32, 32768]⟩
abbrev S8192x4x32 : Shape := ⟨3, ![8192, 4, 32]⟩
abbrev S32x4x8192 : Shape := ⟨3, ![32, 4, 8192]⟩
abbrev S128x8192 : Shape := ⟨2, ![128, 8192]⟩
abbrev S32x8192 : Shape := ⟨2, ![32, 8192]⟩
abbrev S1024x4096 : Shape := ⟨2, ![1024, 4096]⟩
abbrev S128x256 : Shape := ⟨2, ![128, 256]⟩
abbrev S1024x256 : Shape := ⟨2, ![1024, 256]⟩
abbrev S32x256 : Shape := ⟨2, ![32, 256]⟩
abbrev S1024x128 : Shape := ⟨2, ![1024, 128]⟩
abbrev S512x256 : Shape := ⟨2, ![512, 256]⟩
abbrev S128x128 : Shape := ⟨2, ![128, 128]⟩
abbrev S256x128 : Shape := ⟨2, ![256, 128]⟩
abbrev S32x8x4x128 : Shape := ⟨4, ![32, 8, 4, 128]⟩
abbrev S32x1x4x128 : Shape := ⟨4, ![32, 1, 4, 128]⟩
abbrev S512x128 : Shape := ⟨2, ![512, 128]⟩
abbrev S128x8x128 : Shape := ⟨3, ![128, 8, 128]⟩
abbrev S128x1x128 : Shape := ⟨3, ![128, 1, 128]⟩
abbrev S4x128 : Shape := ⟨2, ![4, 128]⟩
abbrev S4x1x128 : Shape := ⟨3, ![4, 1, 128]⟩
abbrev S4x2x128 : Shape := ⟨3, ![4, 2, 128]⟩
abbrev S8x128 : Shape := ⟨2, ![8, 128]⟩
abbrev S16x128 : Shape := ⟨2, ![16, 128]⟩
abbrev S16x16x128 : Shape := ⟨3, ![16, 16, 128]⟩
abbrev S1x16x128 : Shape := ⟨3, ![1, 16, 128]⟩
abbrev S32x1024 : Shape := ⟨2, ![32, 1024]⟩
abbrev S4x8x1x8192 : Shape := ⟨4, ![4, 8, 1, 8192]⟩
abbrev S8x1x8192x4 : Shape := ⟨4, ![8, 1, 8192, 4]⟩
abbrev S8x1x32768 : Shape := ⟨3, ![8, 1, 32768]⟩

abbrev nBuf : Space → Nat
  | .hbm => 33
  | .vmem => 17
  | .smem => 0
  | _ => 0

abbrev bufTy : (tb : Table) → Fin (tcTables nBuf tb) → BufTy
  | .hbm, ⟨0, _⟩ => ⟨S8x1x8192, .bf16⟩
  | .hbm, ⟨1, _⟩ => ⟨S32768x4096, .i8⟩
  | .hbm, ⟨2, _⟩ => ⟨S32768x32, .f16⟩
  | .hbm, ⟨3, _⟩ => ⟨S32768x32, .f16⟩
  | .hbm, ⟨4, _⟩ => ⟨S32768x256, .i8⟩
  | .hbm, ⟨5, _⟩ => ⟨S32768x256, .i8⟩
  | .hbm, ⟨6, _⟩ => ⟨S8x128x2x32, .bf16⟩
  | .hbm, ⟨7, _⟩ => ⟨S8x128x32x2, .bf16⟩
  | .hbm, ⟨8, _⟩ => ⟨S8x4096x1x2, .bf16⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .bf16⟩
  | .hbm, ⟨16, _⟩ => ⟨S1x8x4096x1x2, .bf16⟩
  | .hbm, ⟨17, _⟩ => ⟨S4x1x1x4x1, .bf16⟩
  | .hbm, ⟨18, _⟩ => ⟨S4x8x4096x4x2, .bf16⟩
  | .hbm, ⟨19, _⟩ => ⟨S4x8x4096x4x2, .bf16⟩
  | .hbm, ⟨20, _⟩ => ⟨S4x8x4096x4x2, .bf16⟩
  | .hbm, ⟨21, _⟩ => ⟨S32x32768, .bf16⟩
  | .hbm, ⟨22, _⟩ => ⟨S8192x4x32, .f16⟩
  | .hbm, ⟨23, _⟩ => ⟨S32x4x8192, .f16⟩
  | .hbm, ⟨24, _⟩ => ⟨S128x8192, .f16⟩
  | .hbm, ⟨25, _⟩ => ⟨S8192x4x32, .f16⟩
  | .hbm, ⟨26, _⟩ => ⟨S32x4x8192, .f16⟩
  | .hbm, ⟨27, _⟩ => ⟨S128x8192, .f16⟩
  | .hbm, ⟨28, _⟩ => ⟨S32x8192, .f32⟩
  | .hbm, ⟨29, _⟩ => ⟨S4x8x1x8192, .f32⟩
  | .hbm, ⟨30, _⟩ => ⟨S8x1x8192x4, .f32⟩
  | .hbm, ⟨31, _⟩ => ⟨S8x1x32768, .f32⟩
  | .hbm, ⟨32, _⟩ => ⟨S8x1x32768, .bf16⟩
  | .local _ .vmem, ⟨0, _⟩ => ⟨S32x32768, .bf16⟩
  | .local _ .vmem, ⟨1, _⟩ => ⟨S1024x4096, .i8⟩
  | .local _ .vmem, ⟨2, _⟩ => ⟨S1024x4096, .i8⟩
  | .local _ .vmem, ⟨3, _⟩ => ⟨S128x256, .f16⟩
  | .local _ .vmem, ⟨4, _⟩ => ⟨S128x256, .f16⟩
  | .local _ .vmem, ⟨5, _⟩ => ⟨S128x256, .f16⟩
  | .local _ .vmem, ⟨6, _⟩ => ⟨S128x256, .f16⟩
  | .local _ .vmem, ⟨7, _⟩ => ⟨S1024x256, .i8⟩
  | .local _ .vmem, ⟨8, _⟩ => ⟨S1024x256, .i8⟩
  | .local _ .vmem, ⟨9, _⟩ => ⟨S1024x256, .i8⟩
  | .local _ .vmem, ⟨10, _⟩ => ⟨S1024x256, .i8⟩
  | .local _ .vmem, ⟨11, _⟩ => ⟨S32x256, .f32⟩
  | .local _ .vmem, ⟨12, _⟩ => ⟨S32x256, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x1x8192 : Shape := ⟨3, ![8, 1, 8192]⟩
abbrev S32768x4096 : Shape := ⟨2, ![32768, 4096]⟩
abbrev S32768x32 : Shape := ⟨2, ![32768, 32]⟩
abbrev S32768x256 : Shape := ⟨2, ![32768, 256]⟩
abbrev S32768x128x32 : Shape := ⟨3, ![32768, 128, 32]⟩
abbrev S_ : Shape := ⟨0, ![]⟩
abbrev S32768x32x8 : Shape := ⟨3, ![32768, 32, 8]⟩
abbrev S32768x128x2 : Shape := ⟨3, ![32768, 128, 2]⟩
abbrev S32768x128x1 : Shape := ⟨3, ![32768, 128, 1]⟩
abbrev S32768x128 : Shape := ⟨2, ![32768, 128]⟩
abbrev S8x1x128x2x32 : Shape := ⟨5, ![8, 1, 128, 2, 32]⟩
abbrev S8x1x128x1x32 : Shape := ⟨5, ![8, 1, 128, 1, 32]⟩
abbrev S8x1x128x32 : Shape := ⟨4, ![8, 1, 128, 32]⟩
abbrev S8x1x4096 : Shape := ⟨3, ![8, 1, 4096]⟩
abbrev S8x1x32768 : Shape := ⟨3, ![8, 1, 32768]⟩

abbrev nBuf : Space → Nat
  | .hbm => 65
  | .vmem => 4
  | .smem => 0
  | _ => 0

abbrev bufTy : (tb : Table) → Fin (tcTables nBuf tb) → BufTy
  | .hbm, ⟨0, _⟩ => ⟨S8x1x8192, .bf16⟩
  | .hbm, ⟨1, _⟩ => ⟨S32768x4096, .i8⟩
  | .hbm, ⟨2, _⟩ => ⟨S32768x32, .f16⟩
  | .hbm, ⟨3, _⟩ => ⟨S32768x32, .f16⟩
  | .hbm, ⟨4, _⟩ => ⟨S32768x256, .i8⟩
  | .hbm, ⟨5, _⟩ => ⟨S32768x256, .i8⟩
  | .hbm, ⟨6, _⟩ => ⟨S32768x4096, .i32⟩
  | .hbm, ⟨7, _⟩ => ⟨S32768x128x32, .i32⟩
  | .hbm, ⟨8, _⟩ => ⟨S_, .i32⟩
  | .hbm, ⟨9, _⟩ => ⟨S32768x128x32, .i32⟩
  | .hbm, ⟨10, _⟩ => ⟨S32768x128x32, .i32⟩
  | .hbm, ⟨11, _⟩ => ⟨S32768x128x32, .bf16⟩
  | .hbm, ⟨12, _⟩ => ⟨S_, .i32⟩
  | .hbm, ⟨13, _⟩ => ⟨S32768x128x32, .i32⟩
  | .hbm, ⟨14, _⟩ => ⟨S32768x128x32, .i32⟩
  | .hbm, ⟨15, _⟩ => ⟨S32768x128x32, .bf16⟩
  | .hbm, ⟨16, _⟩ => ⟨S32768x32, .f32⟩
  | .hbm, ⟨17, _⟩ => ⟨S32768x32, .f32⟩
  | .hbm, ⟨18, _⟩ => ⟨S32768x32x8, .f32⟩
  | .hbm, ⟨19, _⟩ => ⟨S32768x256, .f32⟩
  | .hbm, ⟨20, _⟩ => ⟨S32768x32x8, .f32⟩
  | .hbm, ⟨21, _⟩ => ⟨S32768x256, .f32⟩
  | .hbm, ⟨22, _⟩ => ⟨S32768x256, .i32⟩
  | .hbm, ⟨23, _⟩ => ⟨S32768x256, .f32⟩
  | .hbm, ⟨24, _⟩ => ⟨S32768x256, .i32⟩
  | .hbm, ⟨25, _⟩ => ⟨S32768x256, .f32⟩
  | .hbm, ⟨26, _⟩ => ⟨S32768x256, .f32⟩
  | .hbm, ⟨27, _⟩ => ⟨S32768x256, .bf16⟩
  | .hbm, ⟨28, _⟩ => ⟨S32768x128x2, .bf16⟩
  | .hbm, ⟨29, _⟩ => ⟨S32768x256, .f32⟩
  | .hbm, ⟨30, _⟩ => ⟨S32768x256, .bf16⟩
  | .hbm, ⟨31, _⟩ => ⟨S32768x128x2, .bf16⟩
  | .hbm, ⟨32, _⟩ => ⟨S32768x128x1, .bf16⟩
  | .hbm, ⟨33, _⟩ => ⟨S32768x128, .bf16⟩
  | .hbm, ⟨34, _⟩ => ⟨S32768x128x1, .bf16⟩
  | .hbm, ⟨35, _⟩ => ⟨S32768x128, .bf16⟩
  | .hbm, ⟨36, _⟩ => ⟨S32768x128x1, .bf16⟩
  | .hbm, ⟨37, _⟩ => ⟨S32768x128x32, .bf16⟩
  | .hbm, ⟨38, _⟩ => ⟨S32768x128x32, .bf16⟩
  | .hbm, ⟨39, _⟩ => ⟨S32768x128x1, .bf16⟩
  | .hbm, ⟨40, _⟩ => ⟨S32768x128x32, .bf16⟩
  | .hbm, ⟨41, _⟩ => ⟨S32768x128x32, .bf16⟩
  | .hbm, ⟨42, _⟩ => ⟨S32768x4096, .bf16⟩
  | .hbm, ⟨43, _⟩ => ⟨S32768x128x1, .bf16⟩
  | .hbm, ⟨44, _⟩ => ⟨S32768x128, .bf16⟩
  | .hbm, ⟨45, _⟩ => ⟨S32768x128x1, .bf16⟩
  | .hbm, ⟨46, _⟩ => ⟨S32768x128, .bf16⟩
  | .hbm, ⟨47, _⟩ => ⟨S32768x128x1, .bf16⟩
  | .hbm, ⟨48, _⟩ => ⟨S32768x128x32, .bf16⟩
  | .hbm, ⟨49, _⟩ => ⟨S32768x128x32, .bf16⟩
  | .hbm, ⟨50, _⟩ => ⟨S32768x128x1, .bf16⟩
  | .hbm, ⟨51, _⟩ => ⟨S32768x128x32, .bf16⟩
  | .hbm, ⟨52, _⟩ => ⟨S32768x128x32, .bf16⟩
  | .hbm, ⟨53, _⟩ => ⟨S32768x4096, .bf16⟩
  | .hbm, ⟨54, _⟩ => ⟨S8x1x128x2x32, .bf16⟩
  | .hbm, ⟨55, _⟩ => ⟨S8x1x128x1x32, .bf16⟩
  | .hbm, ⟨56, _⟩ => ⟨S8x1x128x32, .bf16⟩
  | .hbm, ⟨57, _⟩ => ⟨S8x1x4096, .bf16⟩
  | .hbm, ⟨58, _⟩ => ⟨S8x1x128x1x32, .bf16⟩
  | .hbm, ⟨59, _⟩ => ⟨S8x1x128x32, .bf16⟩
  | .hbm, ⟨60, _⟩ => ⟨S8x1x4096, .bf16⟩
  | .hbm, ⟨61, _⟩ => ⟨S8x1x32768, .f32⟩
  | .hbm, ⟨62, _⟩ => ⟨S8x1x32768, .f32⟩
  | .hbm, ⟨63, _⟩ => ⟨S8x1x32768, .f32⟩
  | .hbm, ⟨64, _⟩ => ⟨S8x1x32768, .bf16⟩
  | .local _ .vmem, ⟨0, _⟩ => ⟨S32768x32, .f16⟩
  | .local _ .vmem, ⟨1, _⟩ => ⟨S32768x32, .f16⟩
  | .local _ .vmem, ⟨2, _⟩ => ⟨S32768x32, .f32⟩
  | .local _ .vmem, ⟨3, _⟩ => ⟨S32768x32, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32768x32 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x32 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
module

public import proofs.«01_k».proof.Proof.Gen.KernelIdeal.Skeleton
public import Idealize.ShloMosaic.Lib.Pipeline.FrameBody
public import Idealize.ShloMosaic.Lib.Pipeline.Value

/-! The kernel body written with its loops: the 32 chunks of 128 byte columns, the two tiles of 512 weight rows of each
    chunk, and the four pairs of sub-blocks of each tile. Nothing is computed here; these are the definitions the unrolled
    body is compared with. -/

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- Four rows of a scratch block fit below row `8 * 127 + 8`. -/
theorem rows_inb (P : Fin 128) (h : Fin 2) : ∀ a, (![8 * P.val + 4 * h.val, 0] : Fin 2 → Nat) a + (![4, 128] : Fin 2 → Nat) a ≤ S1024x128.size a := by
  intro a
  match a with
  | ⟨0, _⟩ => show 8 * P.val + 4 * h.val + 4 ≤ 1024; omega
  | ⟨1, _⟩ => show 0 + 128 ≤ 128; omega

/-- The four rows a scratch block holds for half `h` of pair `P`: the group's scaled values, one row per byte of a word. -/
def rows (S : Vec F S1024x128 .f32) (P : Fin 128) (h : Fin 2) : Vec F S4x128 .f32 :=
  View.ld (Val := Elt F) (S := S1024x128) (e' := .f32) S (Rect.unit (s := S1024x128) ![8 * P.val + 4 * h.val, 0] ![4, 128] (rows_inb P h))

/-- The body's `_pair_bf16`: the rows of the pair's two halves interleaved, rounded, and repeated once. -/
def pairRows (lo hi : Vec F S4x128 .f32) : FVec F S16x128 .bf16 :=
  concatenate S16x128 0
    [⟨S8x128, truncf .bf16 (shapeCast S8x128 (concatenate S4x2x128 1 [⟨S4x1x128, shapeCast S4x1x128 lo shapeCasts_S4x128_S4x1x128⟩, ⟨S4x1x128, shapeCast S4x1x128 hi shapeCasts_S4x128_S4x1x128⟩] concatenates_S4x1x128_S4x1x128_S4x2x128_d1) shapeCasts_S4x2x128_S8x128) bitsLt_bf16_f32⟩,
     ⟨S8x128, truncf .bf16 (shapeCast S8x128 (concatenate S4x2x128 1 [⟨S4x1x128, shapeCast S4x1x128 lo shapeCasts_S4x128_S4x1x128⟩, ⟨S4x1x128, shapeCast S4x1x128 hi shapeCasts_S4x128_S4x1x128⟩] concatenates_S4x1x128_S4x1x128_S4x2x128_d1) shapeCasts_S4x2x128_S8x128) bitsLt_bf16_f32⟩]
    concatenates_S8x128_S8x128_S16x128_d0

/-- The 256 rows of one pair's codes start below row 1024. -/
theorem codes_slices (p : Fin 4) : S1024x128.Slices ![256 * p.val, 0] S256x128 := by
  revert p; decide

/-- One pair's weights: its 256 rows of codes times the pair's scales, less its offsets. -/
def piece (q : FVec F S1024x128 .bf16) (p : Fin 4) (s o : FVec F S16x128 .bf16) : FVec F S256x128 .bf16 :=
  shapeCast S256x128
    (subf (mulf (shapeCast S16x16x128 (extractStridedSlice S256x128 ![256 * p.val, 0] q (codes_slices p)) shapeCasts_S256x128_S16x16x128)
        (broadcastTo S16x16x128 (shapeCast S1x16x128 s shapeCasts_S16x128_S1x16x128) broadcasts_S1x16x128_S16x16x128))
      (broadcastTo S16x16x128 (shapeCast S1x16x128 o shapeCasts_S16x128_S1x16x128) broadcasts_S1x16x128_S16x16x128))
    shapeCasts_S16x16x128_S256x128

/-- Pair `p` of chunk `c`. -/
def pairOf (c : Fin 32) (p : Fin 4) : Fin 128 := ⟨4 * c.val + p.val, by omega⟩

/-- The weights of pair `p` of chunk `c`, from the codes and the two scratch blocks. -/
def pieceOf (q : FVec F S1024x128 .bf16) (S O : Vec F S1024x128 .f32) (c : Fin 32) (p : Fin 4) : FVec F S256x128 .bf16 :=
  piece q p (pairRows (rows S (pairOf c p) 0) (rows S (pairOf c p) 1)) (pairRows (rows O (pairOf c p) 0) (rows O (pairOf c p) 1))

/-- One tile's weights of chunk `c`: the four pairs one below the other. -/
def tile (q : FVec F S1024x128 .bf16) (S O : Vec F S1024x128 .f32) (c : Fin 32) : FVec F S1024x128 .bf16 :=
  concatenate S1024x128 0 [⟨S256x128, pieceOf q S O c 0⟩, ⟨S256x128, pieceOf q S O c 1⟩, ⟨S256x128, pieceOf q S O c 2⟩, ⟨S256x128, pieceOf q S O c 3⟩]
    concatenates_S256x128_S256x128_S256x128_S256x128_S1024x128_d0

/-- 512 rows and 128 columns of the byte block fit. -/
theorem bytes_inb (t : Fin 2) (c : Fin 32) : ∀ a, (![512 * t.val, 128 * c.val] : Fin 2 → Nat) a + (![512, 128] : Fin 2 → Nat) a ≤ S1024x4096.size a := by
  intro a
  match a with
  | ⟨0, _⟩ => show 512 * t.val + 512 ≤ 1024; omega
  | ⟨1, _⟩ => show 128 * c.val + 128 ≤ 4096; omega

/-- The codes of tile `t` and chunk `c`: the nibbles of that part of the byte block. -/
def codes (q : Vec F S1024x4096 .i8) (t : Fin 2) (c : Fin 32) : FVec F S1024x128 .bf16 :=
  k0_pay8 (View.ld (Val := Elt F) (S := S1024x4096) (e' := .i8) q (Rect.unit (s := S1024x4096) ![512 * t.val, 128 * c.val] ![512, 128] (bytes_inb t c)))

/-- 512 rows of the block of sub-block scales fit. -/
theorem sub_inb (t : Fin 2) : ∀ a, (![512 * t.val, 0] : Fin 2 → Nat) a + (![512, 256] : Fin 2 → Nat) a ≤ S1024x256.size a := by
  intro a
  match a with
  | ⟨0, _⟩ => show 512 * t.val + 512 ≤ 1024; omega
  | ⟨1, _⟩ => show 0 + 256 ≤ 256; omega

/-- 128 lanes of the block of super-block scales fit. -/
theorem super_inb (t : Fin 2) : ∀ a, (![0, 128 * t.val] : Fin 2 → Nat) a + (![128, 128] : Fin 2 → Nat) a ≤ S128x256.size a := by
  intro a
  match a with
  | ⟨0, _⟩ => show 0 + 128 ≤ 128; omega
  | ⟨1, _⟩ => show 128 * t.val + 128 ≤ 256; omega

/-- The scratch block of tile `t`: the sub-block scales of the tile times the super-block scales of its rows. -/
def scratch (sc : Vec F S1024x256 .i8) (d : Vec F S128x256 .f16) (t : Fin 2) : Vec F S1024x128 .f32 :=
  k0_pay2 (View.ld (Val := Elt F) (S := S1024x256) (e' := .i8) sc (Rect.unit (s := S1024x256) ![512 * t.val, 0] ![512, 256] (sub_inb t)))
    (View.ld (Val := Elt F) (S := S128x256) (e' := .f16) d (Rect.unit (s := S128x256) ![0, 128 * t.val] ![128, 128] (super_inb t)))

/-- 1,024 columns of the expanded activations fit. -/
theorem x_inb (c : Fin 32) : ∀ a, (![0, 1024 * c.val] : Fin 2 → Nat) a + (![32, 1024] : Fin 2 → Nat) a ≤ S32x32768.size a := by
  intro a
  match a with
  | ⟨0, _⟩ => show 0 + 32 ≤ 32; omega
  | ⟨1, _⟩ => show 1024 * c.val + 1024 ≤ 32768; omega

/-- Chunk `c`'s product: its 1,024 columns of the expanded activations with the two tiles' weights side by side. -/
def part (x : Vec F S32x32768 .bf16) (q : Vec F S1024x4096 .i8) (S0 O0 S1 O1 : Vec F S1024x128 .f32) (c : Fin 32) : FVec F S32x256 .f32 :=
  matmul dot_S32x1024_S1024x256_S32x256_1_0_0_1_n_n none
    (shapeCast S32x1024 (View.ld (Val := Elt F) (S := S32x32768) (e' := .bf16) x (Rect.unit (s := S32x32768) ![0, 1024 * c.val] ![32, 1024] (x_inb c))) shapeCasts_S32x1024_S32x1024)
    (concatenate S1024x256 1 [⟨S1024x128, tile (codes q 0 c) S0 O0 c⟩, ⟨S1024x128, tile (codes q 1 c) S1 O1 c⟩] concatenates_S1024x128_S1024x128_S1024x256_d1)
    (constant S32x256 .f32 0x00000000#32)

/-- The products of chunks `0 .. n` added up, first to last. -/
def accum (x : Vec F S32x32768 .bf16) (q : Vec F S1024x4096 .i8) (S0 O0 S1 O1 : Vec F S1024x128 .f32) : (n : ℕ) → n < 32 → FVec F S32x256 .f32
  | 0, h => part x q S0 O0 S1 O1 ⟨0, h⟩
  | n + 1, h => addf (accum x q S0 O0 S1 O1 n (Nat.lt_of_succ_lt h)) (part x q S0 O0 S1 O1 ⟨n + 1, h⟩)

/-- What the body stores, from its six input blocks. -/
def stored (x : Vec F S32x32768 .bf16) (q : Vec F S1024x4096 .i8) (d dmin : Vec F S128x256 .f16) (sc mn : Vec F S1024x256 .i8) : FVec F S32x256 .f32 :=
  accum x q (scratch sc d 0) (scratch mn dmin 0) (scratch sc d 1) (scratch mn dmin 1) 31 (by omega)

/-- A read of a scratch block that has been stored whole is a read of what was stored. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld v _ r (fun y => ⟨_, List.mem_singleton_self _, by
    subst h; show y ∈ (Rect.whole S).set; rw [Rect.set_whole]; exact Finset.mem_univ y⟩), View.canon_unit_zero h]

end Cert.KernelIdeal.Tile
-- ==== Proof.Stored.lean ====
module

public import proofs.«01_k».proof.Proof.Gen.KernelIdeal.Frame
public import proofs.«01_k».proof.Proof.Tile
public import Idealize.ShloMosaic.Lib.Pointwise

/-! What the kernel body leaves in its output block at one grid point, as the body written with its loops. -/

@[expose] public section

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ)

set_option maxHeartbeats 8000000 in
/-- The output block after grid point `t` is what the body with its loops stores, from the point's six input blocks. -/
theorem outsAt_eq (c : Dev nD) (t : Fin cfg0.N) :
    outsAt0 m c t = stored (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  generalize hx0 : iblk m c 0 t = x0
  generalize hx1 : iblk m c 1 t = x1
  generalize hx2 : iblk m c 2 t = x2
  generalize hx3 : iblk m c 3 t = x3
  generalize hx4 : iblk m c 4 t = x4
  generalize hx5 : iblk m c 5 t = x5
  have h0 : (![0, 0] : Fin 2 → Nat) = fun _ => 0 := by funext a; match a with | ⟨0, _⟩ => rfl | ⟨1, _⟩ => rfl
  rw [View.canon_unit_zero h0]
  simp only [readCov_whole (S := S1024x128) _ h0]
  rfl

end Cert.KernelIdeal.Tile
-- ==== Proof.Words.lean ====
module

public import Idealize.ShloMosaic.Lib.Pointwise
public import Idealize.ShloMosaic.Lib.BitcastFour

/-! Words of four bytes: the byte a row of a word tile is, and the four bits a nibble of a word is. -/

@[expose] public section

set_option maxRecDepth 16384

noncomputable section

namespace Cert.Words

open Idealize.ShloMosaic

/-- The four bits of a byte in half `h`: the low four for `h = 0`, the high four for `h = 1`. -/
def nib (b : BitVec 8) (h : Fin 2) : BitVec 32 :=
  if h = 0 then IntOp.andi (b.setWidth 32) 15#32 else IntOp.shrsi .host (b.setWidth 32) 4#32

/-- Bit `i` of the low or of the high four bits of a byte. -/
theorem nib_getLsbD (b : BitVec 8) (h : Fin 2) (i : ℕ) (hi : i < 32) :
    (nib b h).getLsbD i = (decide (i < 4) && b.getLsbD (4 * h.val + i)) := by
  have h15 : (15#32 : BitVec 32).getLsbD i = decide (i < 4) := by
    interval_cases i <;> rfl
  have hm : (b.setWidth 32).msb = false := by
    rw [BitVec.msb_eq_getLsbD_last, BitVec.getLsbD_setWidth, BitVec.getLsbD_of_ge b 31 (by omega)]; rfl
  have hh : h = 0 ∨ h = 1 := by omega
  rcases hh with rfl | rfl
  · unfold nib
    rw [if_pos rfl]
    simp only [IntOp.andi, BitVec.getLsbD_and, BitVec.getLsbD_setWidth, h15]
    simp [hi, Bool.and_comm]
  · unfold nib
    rw [if_neg (by decide)]
    have h4 : ((4#32 : BitVec 32)).toNat = 4 := rfl
    simp only [IntOp.shrsi, h4, Nat.reduceLT, if_true, BitVec.sshiftRight', BitVec.getLsbD_sshiftRight, hm, BitVec.getLsbD_setWidth]
    by_cases h4' : i < 4
    · simp [h4', show 4 + i < 32 by omega, hi]
    · by_cases h28 : 4 + i < 32
      · simp [h4', h28, BitVec.getLsbD_of_ge b (4 + i) (by omega)]
      · simp [h4', h28]

/-- Nibble `n` of a word whose bits are those of the bytes `b 0 .. b 3`: half `n % 2` of byte `n / 2`. -/
theorem word_nib (W : BitVec 32) (b : Fin 4 → BitVec 8)
    (hW : ∀ q (hq : q < 32), W.getLsbD q = (b ⟨q / 8, by omega⟩).getLsbD (q % 8)) (n : ℕ) (hn : n < 8) :
    IntOp.andi (IntOp.shrsi .vector W (IntOp.muli 4#32 (BitVec.ofNat 32 n))) 15#32
      = nib (b ⟨n / 2, by omega⟩) ⟨n % 2, by omega⟩ := by
  have hamt : (IntOp.muli 4#32 (BitVec.ofNat 32 n)).toNat = 4 * n := by
    interval_cases n <;> rfl
  apply BitVec.eq_of_getLsbD_eq
  intro i hi
  have h15 : (15#32 : BitVec 32).getLsbD i = decide (i < 4) := by
    interval_cases i <;> rfl
  rw [nib_getLsbD _ _ i hi]
  have hlt : 4 * n < 32 := by omega
  simp only [IntOp.andi, IntOp.shrsi, hamt, hlt, if_true, BitVec.getLsbD_and, BitVec.sshiftRight', BitVec.getLsbD_sshiftRight, h15]
  by_cases h4 : i < 4
  · have hq : 4 * n + i < 32 := by omega
    rw [if_pos hq, hW _ hq]
    have e1 : (⟨(4 * n + i) / 8, by omega⟩ : Fin 4) = ⟨n / 2, by omega⟩ := Fin.ext (by show (4 * n + i) / 8 = n / 2; omega)
    have e2 : (4 * n + i) % 8 = 4 * (n % 2) + i := by omega
    rw [e1, e2]
    simp [h4, hi]
  · simp [h4]

/-- Bit `q` of the word at row `a`, lane `l`, of a byte tile read as words is bit `q % 8` of the byte in row `4 a + q / 8`. -/
theorem word_bit {R r n : ℕ} (x : (⟨2, ![R, n]⟩ : Shape).Idx → BitVec 8) (h : (⟨2, ![R, n]⟩ : Shape).Bitcasts 8 ⟨2, ![r, n]⟩ 32)
    (a : Fin r) (l : Fin n) (q : ℕ) (hq : q < 32) (p : Fin R) (hp : p.val = 4 * a.val + q / 8) :
    (bitcast ⟨2, ![r, n]⟩ 32 x h (ix2 a l)).getLsbD q = (x (ix2 p l)).getLsbD (q % 8) := by
  rw [bitcast_8_32_getLsbD x h _ q hq]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Bit `i` of the byte at row `a`, lane `l`, of a word tile read as bytes is bit `8 (a % 4) + i` of the word in row `a / 4`. -/
theorem byte_bit {R r n : ℕ} (x : (⟨2, ![r, n]⟩ : Shape).Idx → BitVec 32) (h : (⟨2, ![r, n]⟩ : Shape).Bitcasts 32 ⟨2, ![R, n]⟩ 8)
    (a : Fin R) (l : Fin n) (i : ℕ) (hi : i < 8) (p : Fin r) (hp : p.val = a.val / 4) :
    (bitcast ⟨2, ![R, n]⟩ 8 x h (ix2 a l)).getLsbD i = (x (ix2 p l)).getLsbD (8 * (a.val % 4) + i) := by
  rw [bitcast_getLsbD x h _ i hi (by decide)]
  have hr : (⟨2, ![R, n]⟩ : Shape).row (ix2 a l) = a.val := rfl
  have e : ((⟨2, ![R, n]⟩ : Shape).row (ix2 a l) * 8 + i) % 32 = 8 * (a.val % 4) + i := by rw [hr]; omega
  have e' : ((⟨2, ![R, n]⟩ : Shape).row (ix2 a l) * 8 + i) / 32 = p.val := by rw [hr, hp]; omega
  rw [e]
  congr 2
  funext c
  match c with
  | ⟨0, _⟩ => exact Fin.ext ((h.srcIdx_row _ _ _ ⟨0, Nat.zero_lt_two⟩ rfl).trans e')
  | ⟨1, _⟩ => exact Fin.ext (h.srcIdx_other _ _ _ ⟨1, Nat.one_lt_two⟩ (by show ¬ 1 + 2 = 2; omega))

/-- An integer word as an extended real. -/
def val (b : BitVec 32) : EReal := ((b.toInt : ℝ) : EReal)

end Cert.Words
-- ==== Proof.Read.lean ====
module

public import proofs.«01_k».proof.Proof.Tile
public import proofs.«01_k».proof.Proof.Words

/-! What the kernel body stores, read at an index over the extended reals: a double sum over the chunks and over the
    1,024 rows of a chunk's weights. -/

@[expose] public section

set_option maxRecDepth 16384

noncomputable section

namespace Cert.KernelIdeal.Tile

open Idealize.ShloMosaic Idealize.ShloMosaic.TcCoe Idealize.SL.Sem
open Cert.KernelIdeal Cert.KernelIdeal.Gen Cert.Words

/-- Row `R`, lane `w` of a tile's codes: a nibble of the byte in row `4 w + R % 8 / 2`, column `R / 8`. -/
theorem codes_at (v : Vec Ideal S512x128 .i8) (R : Fin 1024) (w : Fin 128) :
    k0_pay8 (F := Ideal) v (ix2 R w)
      = val (nib (v (ix2 (⟨4 * w.val + R.val % 8 / 2, by omega⟩ : Fin 512) (⟨R.val / 8, by omega⟩ : Fin 128))) ⟨R.val % 8 % 2, by omega⟩) := by
  pointwise [k0_pay8]
  rw [word_nib _ (fun b => v (ix2 (⟨4 * w.val + b.val, by omega⟩ : Fin 512) (⟨R.val / 8, by omega⟩ : Fin 128)))
    (fun q hq => word_bit v _ w _ q hq _ rfl) (R.val % 8) (by omega)]
  rfl

/-- Row `R`, lane `w` of a scratch block: the sub-block scale of row `4 w + R % 4` and group `R / 4`, times its super-block scale. -/
theorem scale_at (v : Vec Ideal S512x256 .i8) (d : Vec Ideal S128x128 .f16) (R : Fin 1024) (w : Fin 128) :
    k0_pay2 (F := Ideal) v d (ix2 R w)
      = val ((v (ix2 (⟨4 * w.val + R.val % 4, by omega⟩ : Fin 512) (⟨R.val / 4, by omega⟩ : Fin 256))).setWidth 32)
        * d (ix2 (⟨R.val / 32 * 4 + R.val % 4, by omega⟩ : Fin 128) w) := by
  have hb : bitcast S1024x128 8 (transpose S256x128 [1, 0] (bitcast S128x256 32 v bitcasts_S512x256_w8_S128x256_w32) transposes_S128x256_p1_0_S256x128)
      bitcasts_S256x128_w32_S1024x128_w8 (ix2 R w) = v (ix2 (⟨4 * w.val + R.val % 4, by omega⟩ : Fin 512) (⟨R.val / 4, by omega⟩ : Fin 256)) := by
    apply BitVec.eq_of_getLsbD_eq
    intro i hi
    rw [byte_bit _ _ R w i hi ⟨R.val / 4, by omega⟩ rfl]
    have ht : transpose S256x128 [1, 0] (bitcast S128x256 32 v bitcasts_S512x256_w8_S128x256_w32) transposes_S128x256_p1_0_S256x128
        (ix2 (⟨R.val / 4, by omega⟩ : Fin 256) w) = bitcast S128x256 32 v bitcasts_S512x256_w8_S128x256_w32 (ix2 w (⟨R.val / 4, by omega⟩ : Fin 256)) := by
      pointwise
    rw [ht, word_bit v _ w _ _ (by omega) ⟨4 * w.val + R.val % 4, by omega⟩ (by show 4 * w.val + R.val % 4 = 4 * w.val + (8 * (R.val % 4) + i) / 8; omega)]
    congr 1
    omega
  pointwise [k0_pay2]
  rw [hb]
  rfl

/-- The four rows of a scratch block read for half `h` of pair `P`. -/
theorem rows_at (S : Vec Ideal S1024x128 .f32) (P : Fin 128) (h : Fin 2) (b : Fin 4) (w : Fin 128) :
    rows (F := Ideal) S P h (ix2 b w) = S (ix2 (⟨8 * P.val + 4 * h.val + b.val, by omega⟩ : Fin 1024) w) := by
  pointwise [rows]

/-- Row `r` of a pair's sixteen rows: row `r % 8 / 2` of the half `r % 2`. -/
theorem pair_at (S : Vec Ideal S1024x128 .f32) (P : Fin 128) (r : Fin 16) (w : Fin 128) :
    pairRows (F := Ideal) (rows S P 0) (rows S P 1) (ix2 r w) = S (ix2 (⟨8 * P.val + 4 * (r.val % 2) + r.val % 8 / 2, by omega⟩ : Fin 1024) w) := by
  pointwise [pairRows, rows_at]
  by_cases h8 : r.val < 8
  · by_cases h1 : r.val % 2 < 1
    · simp only [dif_pos h8, dif_pos h1]
      congr 2; apply Fin.ext; show 8 * P.val + 4 * 0 + r.val / 2 = 8 * P.val + 4 * (r.val % 2) + r.val % 8 / 2; omega
    · simp only [dif_pos h8, dif_neg h1]
      congr 2; apply Fin.ext; show 8 * P.val + 4 * 1 + r.val / 2 = 8 * P.val + 4 * (r.val % 2) + r.val % 8 / 2; omega
  · by_cases h1 : (r.val - 8) % 2 < 1
    · simp only [dif_neg h8, dif_pos h1]
      congr 2; apply Fin.ext; show 8 * P.val + 4 * 0 + (r.val - 8) / 2 = 8 * P.val + 4 * (r.val % 2) + r.val % 8 / 2; omega
    · simp only [dif_neg h8, dif_neg h1]
      congr 2; apply Fin.ext; show 8 * P.val + 4 * 1 + (r.val - 8) / 2 = 8 * P.val + 4 * (r.val % 2) + r.val % 8 / 2; omega

/-- Row `r` of pair `p`'s weights in chunk `c`. -/
theorem piece_at (q : FVec Ideal S1024x128 .bf16) (S O : Vec Ideal S1024x128 .f32) (c : Fin 32) (p : Fin 4) (r : Fin 256) (w : Fin 128) (R : Fin 1024)
    (hR : R.val = 256 * p.val + r.val) :
    pieceOf (F := Ideal) q S O c p (ix2 r w)
      = q (ix2 R w) * S (ix2 (⟨8 * (4 * c.val + R.val / 256) + 4 * (R.val % 2) + R.val % 8 / 2, by omega⟩ : Fin 1024) w)
        - O (ix2 (⟨8 * (4 * c.val + R.val / 256) + 4 * (R.val % 2) + R.val % 8 / 2, by omega⟩ : Fin 1024) w) := by
  pointwise [pieceOf, piece, pair_at]
  have e1 : (⟨256 * p.val + r.val, by omega⟩ : Fin 1024) = R := Fin.ext hR.symm
  have e2 : (⟨8 * (pairOf c p).val + 4 * (r.val % 16 % 2) + r.val % 16 % 8 / 2, by have := (pairOf c p).isLt; omega⟩ : Fin 1024)
      = ⟨8 * (4 * c.val + R.val / 256) + 4 * (R.val % 2) + R.val % 8 / 2, by omega⟩ := by
    apply Fin.ext
    show 8 * (4 * c.val + p.val) + 4 * (r.val % 16 % 2) + r.val % 16 % 8 / 2 = 8 * (4 * c.val + R.val / 256) + 4 * (R.val % 2) + R.val % 8 / 2
    omega
  rw [e1, e2]

/-- Row `R` of a tile's weights in chunk `c`. -/
theorem tile_at (q : FVec Ideal S1024x128 .bf16) (S O : Vec Ideal S1024x128 .f32) (c : Fin 32) (R : Fin 1024) (w : Fin 128) :
    tile (F := Ideal) q S O c (ix2 R w)
      = q (ix2 R w) * S (ix2 (⟨8 * (4 * c.val + R.val / 256) + 4 * (R.val % 2) + R.val % 8 / 2, by omega⟩ : Fin 1024) w)
        - O (ix2 (⟨8 * (4 * c.val + R.val / 256) + 4 * (R.val % 2) + R.val % 8 / 2, by omega⟩ : Fin 1024) w) := by
  pointwise [tile]
  by_cases h0 : R.val < 256
  · rw [dif_pos h0]; exact piece_at q S O c 0 _ w R (by show R.val = 256 * 0 + R.val; omega)
  · rw [dif_neg h0]
    by_cases h1 : R.val - 256 < 256
    · rw [dif_pos h1]; exact piece_at q S O c 1 _ w R (by show R.val = 256 * 1 + (R.val - 256); omega)
    · rw [dif_neg h1]
      by_cases h2 : R.val - 256 - 256 < 256
      · rw [dif_pos h2]; exact piece_at q S O c 2 _ w R (by show R.val = 256 * 2 + (R.val - 256 - 256); omega)
      · rw [dif_neg h2]; exact piece_at q S O c 3 _ w R (by show R.val = 256 * 3 + (R.val - 256 - 256 - 256); omega)

/-- The codes of tile `t` and chunk `c` at row `R`, lane `w`. -/
theorem codesOf_at (q : Vec Ideal S1024x4096 .i8) (t : Fin 2) (c : Fin 32) (R : Fin 1024) (w : Fin 128) :
    codes (F := Ideal) q t c (ix2 R w)
      = val (nib (q (ix2 (⟨512 * t.val + (4 * w.val + R.val % 8 / 2), by omega⟩ : Fin 1024) (⟨128 * c.val + R.val / 8, by omega⟩ : Fin 4096))) ⟨R.val % 8 % 2, by omega⟩) := by
  unfold codes
  rw [codes_at]
  pointwise

/-- The scratch block of tile `t` at row `R`, lane `w`. -/
theorem scratch_at (sc : Vec Ideal S1024x256 .i8) (d : Vec Ideal S128x256 .f16) (t : Fin 2) (R : Fin 1024) (w : Fin 128) :
    scratch (F := Ideal) sc d t (ix2 R w)
      = val ((sc (ix2 (⟨512 * t.val + (4 * w.val + R.val % 4), by omega⟩ : Fin 1024) (⟨R.val / 4, by omega⟩ : Fin 256))).setWidth 32)
        * d (ix2 (⟨R.val / 32 * 4 + R.val % 4, by omega⟩ : Fin 128) (⟨128 * t.val + w.val, by omega⟩ : Fin 256)) := by
  unfold scratch
  rw [scale_at]
  pointwise

/-- The weight in row `R` of chunk `c` and column `j` of the block: the nibble times its scale, less its offset. -/
def blockWeight (q : Vec Ideal S1024x4096 .i8) (d dmin : Vec Ideal S128x256 .f16) (sc mn : Vec Ideal S1024x256 .i8) (c : Fin 32) (R : Fin 1024) (j : Fin 256) : EReal :=
  val (nib (q (ix2 (⟨4 * j.val + R.val % 8 / 2, by omega⟩ : Fin 1024) (⟨128 * c.val + R.val / 8, by omega⟩ : Fin 4096))) ⟨R.val % 2, by omega⟩)
    * (val ((sc (ix2 (⟨4 * j.val + R.val % 8 / 2, by omega⟩ : Fin 1024) (⟨2 * (4 * c.val + R.val / 256) + R.val % 2, by omega⟩ : Fin 256))).setWidth 32)
      * (show EReal from d (ix2 (⟨4 * c.val + R.val % 8 / 2, by omega⟩ : Fin 128) j)))
  - val ((mn (ix2 (⟨4 * j.val + R.val % 8 / 2, by omega⟩ : Fin 1024) (⟨2 * (4 * c.val + R.val / 256) + R.val % 2, by omega⟩ : Fin 256))).setWidth 32)
      * (show EReal from dmin (ix2 (⟨4 * c.val + R.val % 8 / 2, by omega⟩ : Fin 128) j))

/-- A tile's weight is the block's weight in the tile's columns. -/
theorem tile_eq (q : Vec Ideal S1024x4096 .i8) (d dmin : Vec Ideal S128x256 .f16) (sc mn : Vec Ideal S1024x256 .i8) (t : Fin 2) (c : Fin 32) (R : Fin 1024)
    (w : Fin 128) (j : Fin 256) (hj : j.val = 128 * t.val + w.val) :
    tile (F := Ideal) (codes q t c) (scratch sc d t) (scratch mn dmin t) c (ix2 R w) = blockWeight q d dmin sc mn c R j := by
  rw [tile_at, codesOf_at, scratch_at, scratch_at]
  unfold blockWeight
  have e1 : (⟨512 * t.val + (4 * w.val + R.val % 8 / 2), by omega⟩ : Fin 1024) = ⟨4 * j.val + R.val % 8 / 2, by omega⟩ := Fin.ext (by show 512 * t.val + (4 * w.val + R.val % 8 / 2) = 4 * j.val + R.val % 8 / 2; omega)
  have e2 : (⟨R.val % 8 % 2, by omega⟩ : Fin 2) = ⟨R.val % 2, by omega⟩ := Fin.ext (by show R.val % 8 % 2 = R.val % 2; omega)
  have e3 : (⟨512 * t.val + (4 * w.val + (8 * (4 * c.val + R.val / 256) + 4 * (R.val % 2) + R.val % 8 / 2) % 4), by omega⟩ : Fin 1024) = ⟨4 * j.val + R.val % 8 / 2, by omega⟩ := Fin.ext (by
    show 512 * t.val + (4 * w.val + (8 * (4 * c.val + R.val / 256) + 4 * (R.val % 2) + R.val % 8 / 2) % 4) = 4 * j.val + R.val % 8 / 2; omega)
  have e4 : (⟨(8 * (4 * c.val + R.val / 256) + 4 * (R.val % 2) + R.val % 8 / 2) / 4, by omega⟩ : Fin 256) = ⟨2 * (4 * c.val + R.val / 256) + R.val % 2, by omega⟩ := Fin.ext (by
    show (8 * (4 * c.val + R.val / 256) + 4 * (R.val % 2) + R.val % 8 / 2) / 4 = 2 * (4 * c.val + R.val / 256) + R.val % 2; omega)
  have e5 : (⟨(8 * (4 * c.val + R.val / 256) + 4 * (R.val % 2) + R.val % 8 / 2) / 32 * 4 + (8 * (4 * c.val + R.val / 256) + 4 * (R.val % 2) + R.val % 8 / 2) % 4, by omega⟩ : Fin 128) = ⟨4 * c.val + R.val % 8 / 2, by omega⟩ := Fin.ext (by
    show (8 * (4 * c.val + R.val / 256) + 4 * (R.val % 2) + R.val % 8 / 2) / 32 * 4 + (8 * (4 * c.val + R.val / 256) + 4 * (R.val % 2) + R.val % 8 / 2) % 4 = 4 * c.val + R.val % 8 / 2
    have h3 : R.val / 256 ≤ 3 := by omega
    have hd : (8 * (4 * c.val + R.val / 256) + 4 * (R.val % 2) + R.val % 8 / 2) / 32 = c.val := by omega
    have hm : (8 * (4 * c.val + R.val / 256) + 4 * (R.val % 2) + R.val % 8 / 2) % 4 = R.val % 8 / 2 := by omega
    rw [hd, hm, Nat.mul_comm])
  have e6 : (⟨128 * t.val + w.val, by omega⟩ : Fin 256) = j := Fin.ext hj.symm
  rw [e1, e2, e3, e4, e5, e6]

/-- One chunk's product at row `i`, column `j`. -/
theorem part_at (x : Vec Ideal S32x32768 .bf16) (q : Vec Ideal S1024x4096 .i8) (d dmin : Vec Ideal S128x256 .f16) (sc mn : Vec Ideal S1024x256 .i8)
    (c : Fin 32) (i : Fin 32) (j : Fin 256) :
    part (F := Ideal) x q (scratch sc d 0) (scratch mn dmin 0) (scratch sc d 1) (scratch mn dmin 1) c (ix2 i j)
      = ∑ R : Fin 1024, (show EReal from x (ix2 i (⟨1024 * c.val + R.val, by omega⟩ : Fin 32768))) * blockWeight q d dmin sc mn c R j := by
  pointwise [part]
  refine Finset.sum_congr rfl fun R _ => ?_
  refine congrArg _ ?_
  by_cases h : j.val < 128
  · rw [dif_pos h]; exact tile_eq q d dmin sc mn 0 c R _ j (by show j.val = 128 * 0 + j.val; omega)
  · rw [dif_neg h]; exact tile_eq q d dmin sc mn 1 c R _ j (by show j.val = 128 * 1 + (j.val - 128); omega)

/-- The running sum after chunk `n` at an index. -/
theorem accum_at (x : Vec Ideal S32x32768 .bf16) (q : Vec Ideal S1024x4096 .i8) (d dmin : Vec Ideal S128x256 .f16) (sc mn : Vec Ideal S1024x256 .i8)
    (i : Fin 32) (j : Fin 256) (n : ℕ) (h : n < 32) :
    accum (F := Ideal) x q (scratch sc d 0) (scratch mn dmin 0) (scratch sc d 1) (scratch mn dmin 1) n h (ix2 i j)
      = ∑ c : Fin (n + 1), ∑ R : Fin 1024, (show EReal from x (ix2 i (⟨1024 * c.val + R.val, by omega⟩ : Fin 32768))) * blockWeight q d dmin sc mn ⟨c.val, by omega⟩ R j := by
  induction n with
  | zero =>
    rw [Fin.sum_univ_one]
    exact part_at x q d dmin sc mn ⟨0, h⟩ i j
  | succ n ih =>
    rw [Fin.sum_univ_castSucc]
    exact congrArg₂ (· + ·) (ih (Nat.lt_of_succ_lt h)) (part_at x q d dmin sc mn ⟨n + 1, h⟩ i j)

/-- What the body stores at row `i`, column `j` of its block. -/
theorem stored_at (x : Vec Ideal S32x32768 .bf16) (q : Vec Ideal S1024x4096 .i8) (d dmin : Vec Ideal S128x256 .f16) (sc mn : Vec Ideal S1024x256 .i8)
    (i : Fin 32) (j : Fin 256) :
    stored (F := Ideal) x q d dmin sc mn (ix2 i j)
      = ∑ c : Fin 32, ∑ R : Fin 1024, (show EReal from x (ix2 i (⟨1024 * c.val + R.val, by omega⟩ : Fin 32768))) * blockWeight q d dmin sc mn c R j :=
  accum_at x q d dmin sc mn i j 31 (by omega)

end Cert.KernelIdeal.Tile
-- ==== Proof.Array.lean ====
module

public import proofs.«01_k».proof.Proof.Stored
public import proofs.«01_k».proof.Proof.Read
public import Idealize.ShloMosaic.Lib.Pipeline.ValueKit

/-! The kernel's output array after the run, as one function of the arrays the region finds. -/

@[expose] public section

set_option maxRecDepth 16384

noncomputable section

namespace Cert.KernelIdeal.Tile

open Idealize.ShloMosaic Idealize.ShloMosaic.TcCoe Idealize.SL.Sem
open Idealize.ShloMosaic.Pipeline (Dat)
open Cert.KernelIdeal Cert.KernelIdeal.Gen Cert.Words

variable (m : (ℓ : Loc nD τ sig) → Buf (Elt Ideal) ℓ)

/-- The weight in row `R` of chunk `c` and column `J` of the whole output: as in a block, read off the whole arrays. -/
def arrWeight (q : Vec Ideal S32768x4096 .i8) (d dmin : Vec Ideal S128x8192 .f16) (sc mn : Vec Ideal S32768x256 .i8) (c : Fin 32) (R : Fin 1024) (J : Fin 8192) : EReal :=
  val (nib (q (ix2 (⟨4 * J.val + R.val % 8 / 2, by omega⟩ : Fin 32768) (⟨128 * c.val + R.val / 8, by omega⟩ : Fin 4096))) ⟨R.val % 2, by omega⟩)
    * (val ((sc (ix2 (⟨4 * J.val + R.val % 8 / 2, by omega⟩ : Fin 32768) (⟨2 * (4 * c.val + R.val / 256) + R.val % 2, by omega⟩ : Fin 256))).setWidth 32)
      * (show EReal from d (ix2 (⟨4 * c.val + R.val % 8 / 2, by omega⟩ : Fin 128) J)))
  - val ((mn (ix2 (⟨4 * J.val + R.val % 8 / 2, by omega⟩ : Fin 32768) (⟨2 * (4 * c.val + R.val / 256) + R.val % 2, by omega⟩ : Fin 256))).setWidth 32)
      * (show EReal from dmin (ix2 (⟨4 * c.val + R.val % 8 / 2, by omega⟩ : Fin 128) J))

/-- The output array: at row `i` and column `J`, the sum over chunks and rows of the expanded activations times the weights. -/
def whole (x : Vec Ideal S32x32768 .bf16) (q : Vec Ideal S32768x4096 .i8) (d dmin : Vec Ideal S128x8192 .f16) (sc mn : Vec Ideal S32768x256 .i8) : Vec Ideal S32x8192 .f32 :=
  fun y => ∑ c : Fin 32, ∑ R : Fin 1024, (show EReal from x (ix2 (y 0) (⟨1024 * c.val + R.val, by omega⟩ : Fin 32768))) * arrWeight q d dmin sc mn c R (y 1)

/-- The block each window takes at grid point `t`. -/
theorem idx : ∀ t : Fin cfg0.N, t.val < 32 ∧ win0_0.index t = ![0, 0] ∧ win0_1.index t = ![t.val, 0] ∧ win0_2.index t = ![0, t.val] ∧ win0_3.index t = ![0, t.val]
    ∧ win0_4.index t = ![t.val, 0] ∧ win0_5.index t = ![t.val, 0] ∧ win0_6.index t = ![0, t.val] :=
  (by decide +kernel : ∀ t : Fin grid0.N, _)

/-- The expanded activations are one block. -/
theorem iblk0_at (c : Dev nD) (t : Fin cfg0.N) (i : Fin 32) (k : Fin 32768) :
    (show Vec Ideal S32x32768 .bf16 from iblk m c 0 t) (ix2 i k) = (show Vec Ideal S32x32768 .bf16 from V m c main_v14) (ix2 i k) := by
  blk_ext [iblk, idx t]

/-- The byte block of point `t` starts at row `1024 t`. -/
theorem iblk1_at (c : Dev nD) (t : Fin cfg0.N) (r : Fin 1024) (k : Fin 4096) (R : Fin 32768) (hR : R.val = 1024 * t.val + r.val) :
    (show Vec Ideal S1024x4096 .i8 from iblk m c 1 t) (ix2 r k) = (show Vec Ideal S32768x4096 .i8 from V m c main_arg1) (ix2 R k) := by
  blk_ext [iblk, idx t]

/-- The block of super-block scales of point `t` starts at column `256 t`. -/
theorem iblk2_at (c : Dev nD) (t : Fin cfg0.N) (r : Fin 128) (j : Fin 256) (J : Fin 8192) (hJ : J.val = 256 * t.val + j.val) :
    (show Vec Ideal S128x256 .f16 from iblk m c 2 t) (ix2 r j) = (show Vec Ideal S128x8192 .f16 from V m c main_v17) (ix2 r J) := by
  blk_ext [iblk, idx t]

/-- The block of super-block offsets of point `t` starts at column `256 t`. -/
theorem iblk3_at (c : Dev nD) (t : Fin cfg0.N) (r : Fin 128) (j : Fin 256) (J : Fin 8192) (hJ : J.val = 256 * t.val + j.val) :
    (show Vec Ideal S128x256 .f16 from iblk m c 3 t) (ix2 r j) = (show Vec Ideal S128x8192 .f16 from V m c main_v20) (ix2 r J) := by
  blk_ext [iblk, idx t]

/-- The block of sub-block scales of point `t` starts at row `1024 t`. -/
theorem iblk4_at (c : Dev nD) (t : Fin cfg0.N) (r : Fin 1024) (k : Fin 256) (R : Fin 32768) (hR : R.val = 1024 * t.val + r.val) :
    (show Vec Ideal S1024x256 .i8 from iblk m c 4 t) (ix2 r k) = (show Vec Ideal S32768x256 .i8 from V m c main_arg4) (ix2 R k) := by
  blk_ext [iblk, idx t]

/-- The block of sub-block offsets of point `t` starts at row `1024 t`. -/
theorem iblk5_at (c : Dev nD) (t : Fin cfg0.N) (r : Fin 1024) (k : Fin 256) (R : Fin 32768) (hR : R.val = 1024 * t.val + r.val) :
    (show Vec Ideal S1024x256 .i8 from iblk m c 5 t) (ix2 r k) = (show Vec Ideal S32768x256 .i8 from V m c main_arg5) (ix2 R k) := by
  blk_ext [iblk, idx t]

/-- Index `(i, j)` of the output block of point `t` is index `(i, 256 t + j)` of the array. -/
theorem emb6 (t : Fin cfg0.N) (i : Fin 32) (j : Fin 256) (J : Fin 8192) (hJ : J.val = 256 * t.val + j.val) :
    (((cfg0.win 6).blk t).view.emb (ix2 i j) : S32x8192.Idx) = ix2 i J := by
  blk_ext [idx t]

/-- What the body stores at index `(i, j)` of its block at point `t` is the output function where that index lies in the array. -/
theorem point (c : Dev nD) (t : Fin cfg0.N) (y : S32x256.Idx) :
    stored (F := Ideal) (iblk m c 0 t) (iblk m c 1 t) (iblk m c 2 t) (iblk m c 3 t) (iblk m c 4 t) (iblk m c 5 t) y
      = whole (V m c main_v14) (V m c main_arg1) (V m c main_v17) (V m c main_v20) (V m c main_arg4) (V m c main_arg5) (((cfg0.win 6).blk t).view.emb y) := by
  obtain ⟨i, j, rfl⟩ : ∃ (i : Fin 32) (j : Fin 256), y = ix2 i j := ⟨y 0, y 1, eq_ix2 y⟩
  have ht : t.val < 32 := (idx t).1
  have hJ : 256 * t.val + j.val < 8192 := by omega
  refine Eq.trans ?_ (congrArg (whole _ _ _ _ _ _) (emb6 t i j ⟨256 * t.val + j.val, hJ⟩ rfl)).symm
  rw [stored_at]
  refine Finset.sum_congr rfl fun ch _ => Finset.sum_congr rfl fun R _ => ?_
  refine congrArg₂ (· * ·) (iblk0_at m c t i _) ?_
  unfold blockWeight arrWeight
  have hrow (b : ℕ) : 4 * (256 * t.val + j.val) + b = 1024 * t.val + (4 * j.val + b) := by omega
  refine congrArg₂ (· - ·) (congrArg₂ (· * ·) (congrArg (fun b => val (nib b _)) (iblk1_at m c t _ _ _ (hrow _)))
      (congrArg₂ (· * ·) (congrArg (fun b : BitVec 8 => val (b.setWidth 32)) (iblk4_at m c t _ _ _ (hrow _))) (iblk2_at m c t _ j _ rfl)))
    (congrArg₂ (· * ·) (congrArg (fun b : BitVec 8 => val (b.setWidth 32)) (iblk5_at m c t _ _ _ (hrow _))) (iblk3_at m c t _ j _ rfl))

/-- The output array after the run. -/
theorem final (c : Dev nD) : (dats m 0 c).arrAt 6 (cfgs 0).N
    = whole (V m c main_v14) (V m c main_arg1) (V m c main_v17) (V m c main_v20) (V m c main_arg4) (V m c main_arg5) := by
  refine (dats m 0 c).arrAt_eq_of_covers 6 _ (by decide +kernel) fun t _ y => ?_
  blk_simp
  rw [after0_6, outsAt_eq]
  exact point m c t y

end Cert.KernelIdeal.Tile
-- ==== Proof.Spec.lean ====
module

public import proofs.«01_k».proof.Proof.Words
public import Idealize.ShloMosaic.Lib.Pointwise

/-! The linear layer both programs compute, over functions of plain indices, and the rearrangement of its sum. -/

@[expose] public section

set_option maxRecDepth 16384

noncomputable section

namespace Cert.Words

open Idealize.ShloMosaic

/-- The weight of output `o` for half `h` of the byte at packed position `K`: the four-bit code times its group's scale
    (six-bit scale times the super-block's), less its group's minimum. -/
def weight (q : Fin 32768 → Fin 4096 → BitVec 8) (d dmin : Fin 32768 → Fin 32 → EReal) (sc mn : Fin 32768 → Fin 256 → BitVec 8)
    (o : Fin 32768) (K : Fin 4096) (h : Fin 2) : EReal :=
  val (nib (q o K) h) * (val ((sc o ⟨K.val / 32 * 2 + h.val, by omega⟩).setWidth 32) * d o ⟨K.val / 128, by omega⟩)
    - val ((mn o ⟨K.val / 32 * 2 + h.val, by omega⟩).setWidth 32) * dmin o ⟨K.val / 128, by omega⟩

/-- A weight from its five factors, each equal to the one named, with the scale factors in the other order. -/
theorem weight_of (q : Fin 32768 → Fin 4096 → BitVec 8) (d dmin : Fin 32768 → Fin 32 → EReal) (sc mn : Fin 32768 → Fin 256 → BitVec 8)
    (o : Fin 32768) (K : Fin 4096) (h : Fin 2) {Q D M : EReal} {S N : BitVec 8} (hQ : Q = val (nib (q o K) h))
    (hD : D = d o ⟨K.val / 128, by omega⟩) (hM : M = dmin o ⟨K.val / 128, by omega⟩)
    (hS : S = sc o ⟨K.val / 32 * 2 + h.val, by omega⟩) (hN : N = mn o ⟨K.val / 32 * 2 + h.val, by omega⟩) :
    Q * (D * val (S.setWidth 32)) - M * val (N.setWidth 32) = weight q d dmin sc mn o K h := by
  subst hQ hD hM hS hN
  unfold weight
  rw [mul_comm (d o _), mul_comm (dmin o _)]

/-- The layer's result for sample `b` and output `o`: the activations of each half times that half's weights, summed. -/
def spec (x : Fin 8 → Fin 8192 → EReal) (q : Fin 32768 → Fin 4096 → BitVec 8) (d dmin : Fin 32768 → Fin 32 → EReal)
    (sc mn : Fin 32768 → Fin 256 → BitVec 8) (b : Fin 8) (o : Fin 32768) : EReal :=
  ∑ K : Fin 4096, x b ⟨K.val / 32 * 64 + K.val % 32, by omega⟩ * weight q d dmin sc mn o K 0
    + ∑ K : Fin 4096, x b ⟨K.val / 32 * 64 + 32 + K.val % 32, by omega⟩ * weight q d dmin sc mn o K 1

/-- A sum over 32 chunks of 1,024 rows whose terms vanish off pair number `β`: with the rows of a chunk numbered
    `8 k + 2 b + h`, it is the sum over the 4,096 positions `128 c + k` of the terms with `h = 0` and with `h = 1`. -/
theorem regroup (T : Fin 32 → Fin 1024 → EReal) (A : Fin 4096 → Fin 2 → EReal) (β : Fin 4)
    (hz : ∀ c (k : Fin 128) (b : Fin 4) (h : Fin 2), b ≠ β → T c ⟨k.val * 8 + (b.val * 2 + h.val), by omega⟩ = 0)
    (he : ∀ c (k : Fin 128) (h : Fin 2), T c ⟨k.val * 8 + (β.val * 2 + h.val), by omega⟩ = A ⟨c.val * 128 + k.val, by omega⟩ h) :
    ∑ c, ∑ R, T c R = ∑ K, A K 0 + ∑ K, A K 1 := by
  rw [← Finset.sum_add_distrib, Fin.sum_univ_tiles 32 128 rfl]
  refine Finset.sum_congr rfl fun c _ => ?_
  rw [Fin.sum_univ_tiles 128 8 rfl]
  refine Finset.sum_congr rfl fun k _ => ?_
  rw [Fin.sum_univ_tiles 4 2 rfl, Finset.sum_eq_single β, Fin.sum_univ_two]
  · exact congrArg₂ (· + ·) (he c k 0) (he c k 1)
  · intro b _ hb
    exact Finset.sum_eq_zero fun h _ => hz c k b h hb
  · intro hb
    exact absurd (Finset.mem_univ β) hb

end Cert.Words
-- ==== Proof.Host.lean ====
module

public import proofs.«01_k».proof.Proof.Array
public import proofs.«01_k».proof.Proof.Spec
public import proofs.«01_k».proof.Proof.Gen.KernelIdeal.Frame
public import Idealize.ShloMosaic.Lib.Claim
public import Idealize.ShloMosaic.Lib.Pipeline.ValueKit

/-! The operations around the kernel call, read at an index. -/

@[expose] public section

set_option maxRecDepth 16384

noncomputable section

namespace Cert.KernelIdeal.Tile

open Idealize.ShloMosaic Idealize.ShloMosaic.TcCoe Idealize.SL.Sem
open Idealize.ShloMosaic.Pipeline (Dat)
open Cert.KernelIdeal Cert.KernelIdeal.Gen Cert.Words

variable (m : (ℓ : Loc nD τ sig) → Buf (Elt Ideal) ℓ)

/-- The result buffer at the end: the kernel's output array, its rows split into pairs and samples, moved to one row per sample. -/
theorem tail_at (c : Dev nD) (b : Fin 8) (z : Fin 1) (o : Fin 32768) :
    Pipeline.afterTail₀ cfgs (dats m) 0 (V0 m) [hostOps1] c main_v25 (ix3 b z o)
      = (dats m 0 c).arrAt 6 (cfgs 0).N (ix2 (⟨8 * (o.val % 4) + b.val, by omega⟩ : Fin 32) (⟨o.val / 4, by omega⟩ : Fin 8192)) := by
  have hA : Pipeline.withArrays (cfgs 0).spec c (V0 m c) (fun w => (dats m 0 c).arrAt w (cfgs 0).N) (Proc.devRef .tc main_v21) = (dats m 0 c).arrAt 6 (cfgs 0).N :=
    Pipeline.withArrays_arr (cfgs 0).spec (by decide) c (V0 m c) (fun w => (dats m 0 c).arrAt w (cfgs 0).N) 6
  unfold Pipeline.afterTail₀
  simp only [hostOps1, List.flatten_cons, List.flatten_nil, List.append_nil, List.cons_append, List.nil_append]
  after_results
  rw [hA]
  generalize (dats m 0 c).arrAt 6 (cfgs 0).N = A
  pointwise
  exact congrArg A (congrArg₂ ix2 (Fin.ext (by show o.val % 4 * 8 + b.val = 8 * (o.val % 4) + b.val; omega)) rfl)

/-- The scales as the kernel receives them: row `4 s + b`, column `J` is the scale of row `4 J + b`, group `s`. -/
theorem v17_at (c : Dev nD) (s : Fin 32) (b : Fin 4) (J : Fin 8192) :
    V m c main_v17 (ix2 (⟨4 * s.val + b.val, by omega⟩ : Fin 128) J) = m ((c : Thread nD τ).loc main_arg2) (ix2 (⟨4 * J.val + b.val, by omega⟩ : Fin 32768) s) := by
  dsimp only [V, V0]
  simp only [hostOps0, List.flatten_cons, List.flatten_nil, List.append_nil, List.cons_append, List.nil_append]
  after_results
  pointwise
  exact congrArg (m ((c : Thread nD τ).loc main_arg2)) (congrArg₂ ix2 (Fin.ext (by show J.val * 4 + b.val = 4 * J.val + b.val; omega)) rfl)

/-- The minimum scales as the kernel receives them: row `4 s + b`, column `J` is the minimum scale of row `4 J + b`, group `s`. -/
theorem v20_at (c : Dev nD) (s : Fin 32) (b : Fin 4) (J : Fin 8192) :
    V m c main_v20 (ix2 (⟨4 * s.val + b.val, by omega⟩ : Fin 128) J) = m ((c : Thread nD τ).loc main_arg3) (ix2 (⟨4 * J.val + b.val, by omega⟩ : Fin 32768) s) := by
  dsimp only [V, V0]
  simp only [hostOps0, List.flatten_cons, List.flatten_nil, List.append_nil, List.cons_append, List.nil_append]
  after_results
  pointwise
  exact congrArg (m ((c : Thread nD τ).loc main_arg3)) (congrArg₂ ix2 (Fin.ext (by show J.val * 4 + b.val = 4 * J.val + b.val; omega)) rfl)

/-- The comparison of the two counters, as a number: one where the pair numbers agree, zero elsewhere. -/
theorem one_hot (β b : Fin 4) :
    (FloatOps.uitofp (F := Ideal) FTy.bf16 (IntOp.cmpi CmpIPredicate.eq (IntOp.addi (BitVec.ofNat 32 β.val) 0#32) (BitVec.ofNat 32 b.val)) : EReal)
      = if β = b then (1 : EReal) else 0 := by
  have e : IntOp.cmpi CmpIPredicate.eq (IntOp.addi (BitVec.ofNat 32 β.val) 0#32) (BitVec.ofNat 32 b.val) = if β = b then 1#1 else 0#1 := by
    revert β b; decide
  rw [e]
  split
  · show ((((1#1 : BitVec 1).toNat : ℝ)) : EReal) = 1
    norm_num
  · show ((((0#1 : BitVec 1).toNat : ℝ)) : EReal) = 0
    norm_num

/-- The expanded activations: row `8 β + r` holds sample `r` in the places of pair number `β` and zero in the others. -/
theorem v14_at (c : Dev nD) (β b : Fin 4) (r : Fin 8) (K : Fin 4096) (h : Fin 2) :
    V m c main_v14 (ix2 (⟨8 * β.val + r.val, by omega⟩ : Fin 32) (⟨8 * K.val + (2 * b.val + h.val), by omega⟩ : Fin 32768))
      = (show EReal from m ((c : Thread nD τ).loc main_arg0) (ix3 r (0 : Fin 1) (⟨K.val / 32 * 64 + h.val * 32 + K.val % 32, by omega⟩ : Fin 8192))) * (if β = b then (1 : EReal) else 0) := by
  dsimp only [V, V0]
  simp only [hostOps0, List.flatten_cons, List.flatten_nil, List.append_nil, List.cons_append, List.nil_append]
  after_results
  pointwise
  exact congrArg (HMul.hMul (show EReal from m ((c : Thread nD τ).loc main_arg0) (ix3 r (0 : Fin 1) (⟨K.val / 32 * 64 + h.val * 32 + K.val % 32, by omega⟩ : Fin 8192)))) (one_hot β b)

/-- In row `8 k + 2 β + h` of chunk `c`, the weight of column `o / 4` is, for `β = o % 4`, the layer's weight of output
    `o` for half `h` of the byte at position `128 c + k`. -/
theorem arrWeight_at (q : Vec Ideal S32768x4096 .i8) (D M : Vec Ideal S128x8192 .f16) (sc mn : Vec Ideal S32768x256 .i8)
    (d dmin : Fin 32768 → Fin 32 → EReal)
    (hD : ∀ (s : Fin 32) (b : Fin 4) (J : Fin 8192), (show EReal from D (ix2 (⟨4 * s.val + b.val, by omega⟩ : Fin 128) J)) = d ⟨4 * J.val + b.val, by omega⟩ s)
    (hM : ∀ (s : Fin 32) (b : Fin 4) (J : Fin 8192), (show EReal from M (ix2 (⟨4 * s.val + b.val, by omega⟩ : Fin 128) J)) = dmin ⟨4 * J.val + b.val, by omega⟩ s)
    (o : Fin 32768) (c : Fin 32) (k : Fin 128) (h : Fin 2) :
    arrWeight q D M sc mn c ⟨k.val * 8 + (o.val % 4 * 2 + h.val), by omega⟩ ⟨o.val / 4, by omega⟩
      = weight (fun o K => q (ix2 o K)) d dmin (fun o g => sc (ix2 o g)) (fun o g => mn (ix2 o g)) o ⟨c.val * 128 + k.val, by omega⟩ h := by
  have r8 : (k.val * 8 + (o.val % 4 * 2 + h.val)) % 8 / 2 = o.val % 4 := by omega
  have r2 : (k.val * 8 + (o.val % 4 * 2 + h.val)) % 2 = h.val := by omega
  have rk : (k.val * 8 + (o.val % 4 * 2 + h.val)) / 8 = k.val := by omega
  have rg : (k.val * 8 + (o.val % 4 * 2 + h.val)) / 256 = k.val / 32 := by omega
  have ro : 4 * (o.val / 4) + o.val % 4 = o.val := by omega
  have gg : 2 * (4 * c.val + k.val / 32) + h.val = (c.val * 128 + k.val) / 32 * 2 + h.val := by omega
  have gs : c.val = (c.val * 128 + k.val) / 128 := by omega
  have gK : 128 * c.val + k.val = c.val * 128 + k.val := by omega
  have eD := hD c ⟨o.val % 4, by omega⟩ ⟨o.val / 4, by omega⟩
  have eM := hM c ⟨o.val % 4, by omega⟩ ⟨o.val / 4, by omega⟩
  unfold arrWeight weight
  simp only [r8, r2, rk, rg, ro, gg, gK] at eD eM ⊢
  rw [eD, eM]
  simp only [← gs]

/-- The output array at sample `b` and output `o`, when the expanded activations and the two scale arrays are the moved
    arguments: the two sums over the packed positions. -/
theorem whole_at (X : Vec Ideal S32x32768 .bf16) (q : Vec Ideal S32768x4096 .i8) (D M : Vec Ideal S128x8192 .f16) (sc mn : Vec Ideal S32768x256 .i8)
    (x : Fin 8 → Fin 8192 → EReal) (d dmin : Fin 32768 → Fin 32 → EReal)
    (hX : ∀ (β b : Fin 4) (r : Fin 8) (K : Fin 4096) (h : Fin 2),
      (show EReal from X (ix2 (⟨8 * β.val + r.val, by omega⟩ : Fin 32) (⟨8 * K.val + (2 * b.val + h.val), by omega⟩ : Fin 32768)))
        = x r ⟨K.val / 32 * 64 + h.val * 32 + K.val % 32, by omega⟩ * (if β = b then (1 : EReal) else 0))
    (hD : ∀ (s : Fin 32) (b : Fin 4) (J : Fin 8192), (show EReal from D (ix2 (⟨4 * s.val + b.val, by omega⟩ : Fin 128) J)) = d ⟨4 * J.val + b.val, by omega⟩ s)
    (hM : ∀ (s : Fin 32) (b : Fin 4) (J : Fin 8192), (show EReal from M (ix2 (⟨4 * s.val + b.val, by omega⟩ : Fin 128) J)) = dmin ⟨4 * J.val + b.val, by omega⟩ s)
    (b : Fin 8) (o : Fin 32768) :
    (show EReal from whole X q D M sc mn (ix2 (⟨8 * (o.val % 4) + b.val, by omega⟩ : Fin 32) (⟨o.val / 4, by omega⟩ : Fin 8192)))
      = spec x (fun o K => q (ix2 o K)) d dmin (fun o g => sc (ix2 o g)) (fun o g => mn (ix2 o g)) b o := by
  have place : ∀ (c : Fin 32) (k : Fin 128) (b' : Fin 4) (h : Fin 2),
      (⟨1024 * c.val + (k.val * 8 + (b'.val * 2 + h.val)), by omega⟩ : Fin 32768) = ⟨8 * (c.val * 128 + k.val) + (2 * b'.val + h.val), by omega⟩ :=
    fun c k b' h => Fin.ext (by show 1024 * c.val + (k.val * 8 + (b'.val * 2 + h.val)) = 8 * (c.val * 128 + k.val) + (2 * b'.val + h.val); omega)
  have hx : ∀ (c : Fin 32) (k : Fin 128) (b' : Fin 4) (h : Fin 2),
      (show EReal from X (ix2 (⟨8 * (o.val % 4) + b.val, by omega⟩ : Fin 32) (⟨1024 * c.val + (k.val * 8 + (b'.val * 2 + h.val)), by omega⟩ : Fin 32768)))
        = x b ⟨(c.val * 128 + k.val) / 32 * 64 + h.val * 32 + (c.val * 128 + k.val) % 32, by omega⟩ * (if (⟨o.val % 4, by omega⟩ : Fin 4) = b' then (1 : EReal) else 0) := by
    intro c k b' h
    rw [place c k b' h]
    exact hX ⟨o.val % 4, by omega⟩ b' b ⟨c.val * 128 + k.val, by omega⟩ h
  refine (regroup
    (fun c R => (show EReal from X (ix2 (⟨8 * (o.val % 4) + b.val, by omega⟩ : Fin 32) (⟨1024 * c.val + R.val, by omega⟩ : Fin 32768)))
      * arrWeight q D M sc mn c R ⟨o.val / 4, by omega⟩)
    (fun K h => x b ⟨K.val / 32 * 64 + h.val * 32 + K.val % 32, by omega⟩
      * weight (fun o K => q (ix2 o K)) d dmin (fun o g => sc (ix2 o g)) (fun o g => mn (ix2 o g)) o K h) ⟨o.val % 4, by omega⟩
    (fun c k b' h hb => ?_) (fun c k h => ?_)).trans ?_
  · refine (congrArg (fun v : EReal => v * _) (hx c k b' h)).trans ?_
    rw [if_neg (Ne.symm hb), mul_zero, zero_mul]
  · refine congrArg₂ (fun a b : EReal => a * b) ((hx c k _ h).trans ?_) (arrWeight_at q D M sc mn d dmin hD hM o c k h)
    rw [if_pos rfl, mul_one]
  · rfl

/-- The kernel's result: the two sums over the packed positions, one per half of the bytes. -/
theorem result_at (c : Dev nD) (b : Fin 8) (z : Fin 1) (o : Fin 32768) :
    (show EReal from Pipeline.afterTail₀ cfgs (dats m) 0 (V0 m) [hostOps1] c main_v25 (ix3 b z o))
      = spec (fun b i => m ((c : Thread nD τ).loc main_arg0) (ix3 b (0 : Fin 1) i)) (fun o K => m ((c : Thread nD τ).loc main_arg1) (ix2 o K))
          (fun o s => m ((c : Thread nD τ).loc main_arg2) (ix2 o s)) (fun o s => m ((c : Thread nD τ).loc main_arg3) (ix2 o s))
          (fun o g => m ((c : Thread nD τ).loc main_arg4) (ix2 o g)) (fun o g => m ((c : Thread nD τ).loc main_arg5) (ix2 o g)) b o := by
  refine (tail_at m c b z o).trans ?_
  rw [final m c, V_main_arg1, V_main_arg4, V_main_arg5]
  exact whole_at _ _ _ _ _ _ _ _ _ (v14_at m c) (v17_at m c) (v20_at m c) b o

end Cert.KernelIdeal.Tile
-- ==== Proof.RefTail.lean ====
module

public import proofs.«01_k».proof.Proof.Spec
public import proofs.«01_k».proof.Proof.Gen.ReferenceIdeal.Frame
public import Idealize.ShloMosaic.Lib.Claim
public import Idealize.ShloMosaic.Lib.Pipeline.ValueKit

/-! The reference's result read at an index. -/

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Words

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The widened scales are the scales. -/
theorem wide2 (c : Dev nD) (i : Fin 32768) (s : Fin 32) :
    (show EReal from (dats m 0 c).arrAt 2 (cfgs 0).N (ix2 i s)) = m ((c : Thread nD τ).loc main_arg2) (ix2 i s) := by
  have h : (dats m 0 c).arrAt 2 (cfgs 0).N = k0_pay1 (F := Ideal) (m ((c : Thread nD τ).loc main_arg2)) := by
    refine (dats m 0 c).arrAt_eq_of_after_last 2 t0_0 (by decide +kernel) _ fun j => ?_
    blk_simp; rw [after0_2]; frame_out; blk_point [iblk, V, idx t0_0]
  rw [h]
  pointwise [k0_pay1]

/-- The widened minimum scales are the minimum scales. -/
theorem wide3 (c : Dev nD) (i : Fin 32768) (s : Fin 32) :
    (show EReal from (dats m 0 c).arrAt 3 (cfgs 0).N (ix2 i s)) = m ((c : Thread nD τ).loc main_arg3) (ix2 i s) := by
  have h : (dats m 0 c).arrAt 3 (cfgs 0).N = k0_pay2 (F := Ideal) (m ((c : Thread nD τ).loc main_arg3)) := by
    refine (dats m 0 c).arrAt_eq_of_after_last 3 t0_0 (by decide +kernel) _ fun j => ?_
    blk_simp; rw [after0_3]; frame_out; blk_point [iblk, V, idx t0_0]
  rw [h]
  pointwise [k0_pay2]

/-- The low four bits of the codes as numbers. -/
theorem v4_at (c : Dev nD) (o : Fin 32768) (g : Fin 128) (l : Fin 32) :
    (show EReal from V m c main_v4 (ix3 o g l)) = val (nib (m ((c : Thread nD τ).loc main_arg1) (ix2 o (⟨g.val * 32 + l.val, by omega⟩ : Fin 4096))) 0) := by
  dsimp only [V, V0]
  simp only [hostOps0, List.flatten_cons, List.flatten_nil, List.append_nil, List.cons_append, List.nil_append]
  after_results
  pointwise
  rfl

/-- The high four bits of the codes as numbers. -/
theorem v7_at (c : Dev nD) (o : Fin 32768) (g : Fin 128) (l : Fin 32) :
    (show EReal from V m c main_v7 (ix3 o g l)) = val (nib (m ((c : Thread nD τ).loc main_arg1) (ix2 o (⟨g.val * 32 + l.val, by omega⟩ : Fin 4096))) 1) := by
  dsimp only [V, V0]
  simp only [hostOps0, List.flatten_cons, List.flatten_nil, List.append_nil, List.cons_append, List.nil_append]
  after_results
  pointwise
  rfl

set_option maxHeartbeats 1600000 in
/-- The reference's result: the two sums over the packed positions, one per half of the bytes. -/
theorem tail_at (c : Dev nD) (b : Fin 8) (z : Fin 1) (o : Fin 32768) :
    (show EReal from Pipeline.afterTail₀ cfgs (dats m) 0 (V0 m) [hostOps1] c main_v55 (ix3 b z o))
      = spec (fun b i => m ((c : Thread nD τ).loc main_arg0) (ix3 b (0 : Fin 1) i)) (fun o K => m ((c : Thread nD τ).loc main_arg1) (ix2 o K))
          (fun o s => m ((c : Thread nD τ).loc main_arg2) (ix2 o s)) (fun o s => m ((c : Thread nD τ).loc main_arg3) (ix2 o s))
          (fun o g => m ((c : Thread nD τ).loc main_arg4) (ix2 o g)) (fun o g => m ((c : Thread nD τ).loc main_arg5) (ix2 o g)) b o := by
  have hA2 : Pipeline.withArrays (cfgs 0).spec c (V0 m c) (fun w => (dats m 0 c).arrAt w (cfgs 0).N) (Proc.devRef .tc main_v8_0) = (dats m 0 c).arrAt 2 (cfgs 0).N :=
    Pipeline.withArrays_arr (cfgs 0).spec (by decide) c (V0 m c) (fun w => (dats m 0 c).arrAt w (cfgs 0).N) 2
  have hA3 : Pipeline.withArrays (cfgs 0).spec c (V0 m c) (fun w => (dats m 0 c).arrAt w (cfgs 0).N) (Proc.devRef .tc main_v8_1) = (dats m 0 c).arrAt 3 (cfgs 0).N :=
    Pipeline.withArrays_arr (cfgs 0).spec (by decide) c (V0 m c) (fun w => (dats m 0 c).arrAt w (cfgs 0).N) 3
  have hne : ∀ r : Ref sig .tc, (∀ w, Pipeline.arrRef (cfgs 0).spec w ≠ r) →
      Pipeline.withArrays (cfgs 0).spec c (V0 m c) (fun w => (dats m 0 c).arrAt w (cfgs 0).N) (Proc.devRef .tc r) = V m c r :=
    fun r h => Pipeline.withArrays_of_ne (cfgs 0).spec c (V0 m c) (fun w => (dats m 0 c).arrAt w (cfgs 0).N) r h
  have h0 := hne main_arg0 (by decide)
  have h4 := hne main_arg4 (by decide)
  have h5 := hne main_arg5 (by decide)
  have hv4 := hne main_v4 (by decide)
  have hv7 := hne main_v7 (by decide)
  unfold Pipeline.afterTail₀
  simp only [hostOps1, List.flatten_cons, List.flatten_nil, List.append_nil, List.cons_append, List.nil_append]
  after_results
  rw [hA2, hA3, h0, h4, h5, hv4, hv7]
  rw [V_main_arg0, V_main_arg4, V_main_arg5]
  have e2 := wide2 m c
  have e3 := wide3 m c
  have e4 := v4_at m c
  have e7 := v7_at m c
  generalize (dats m 0 c).arrAt 2 (cfgs 0).N = D at e2 ⊢
  generalize (dats m 0 c).arrAt 3 (cfgs 0).N = M at e3 ⊢
  generalize V m c main_v4 = Q0 at e4 ⊢
  generalize V m c main_v7 = Q1 at e7 ⊢
  pointwise
  unfold spec
  refine congrArg₂ (· + ·) (Finset.sum_congr rfl fun K _ => ?_) (Finset.sum_congr rfl fun K _ => ?_)
  · exact congrArg₂ (fun a b : EReal => a * b) rfl (weight_of _ _ _ _ _ o K 0
      ((e4 o ⟨K.val / 32, by omega⟩ ⟨K.val % 32, by omega⟩).trans
        (congrArg (fun i => val (nib (m ((c : Thread nD τ).loc main_arg1) (ix2 o i)) 0)) (Fin.ext (by show K.val / 32 * 32 + K.val % 32 = K.val; omega))))
      ((e2 o ⟨K.val / 32 * 2 / 8, by omega⟩).trans (congrArg (fun i => m ((c : Thread nD τ).loc main_arg2) (ix2 o i)) (Fin.ext (by show K.val / 32 * 2 / 8 = K.val / 128; omega))))
      ((e3 o ⟨K.val / 32 * 2 / 8, by omega⟩).trans (congrArg (fun i => m ((c : Thread nD τ).loc main_arg3) (ix2 o i)) (Fin.ext (by show K.val / 32 * 2 / 8 = K.val / 128; omega))))
      rfl rfl)
  · exact congrArg₂ (fun a b : EReal => a * b) rfl (weight_of _ _ _ _ _ o K 1
      ((e7 o ⟨K.val / 32, by omega⟩ ⟨K.val % 32, by omega⟩).trans
        (congrArg (fun i => val (nib (m ((c : Thread nD τ).loc main_arg1) (ix2 o i)) 1)) (Fin.ext (by show K.val / 32 * 32 + K.val % 32 = K.val; omega))))
      ((e2 o ⟨(K.val / 32 * 2 + 1) / 8, by omega⟩).trans (congrArg (fun i => m ((c : Thread nD τ).loc main_arg2) (ix2 o i)) (Fin.ext (by show (K.val / 32 * 2 + 1) / 8 = K.val / 128; omega))))
      ((e3 o ⟨(K.val / 32 * 2 + 1) / 8, by omega⟩).trans (congrArg (fun i => m ((c : Thread nD τ).loc main_arg3) (ix2 o i)) (Fin.ext (by show (K.val / 32 * 2 + 1) / 8 = K.val / 128; omega))))
      rfl rfl)

end Cert.ReferenceIdeal.Value
-- ==== Proof.Algebraic.lean ====
module

public import proofs.«01_k».proof.Proof.Host
public import proofs.«01_k».proof.Proof.RefTail
public import proofs.«01_k».proof.Defs
public import Idealize.ShloMosaic.Lib.Claim

/-! The idealized kernel and the reference return the same array. -/

@[expose] public section

set_option maxRecDepth 16384

noncomputable section

namespace Cert.Algebraic

open Idealize.ShloMosaic Idealize.ShloMosaic.TcCoe Idealize.SL.Sem

set_option maxHeartbeats 1600000 in
/-- From memories that agree on the six arguments, the idealized kernel and the reference end with equal results and
    leave their arguments as launched. -/
theorem algebraic : Cert.algebraic_KernelIdeal_ReferenceIdeal := by
  pair_intro
  · run_from Cert.KernelIdeal.Gen.run_main m g & Cert.KernelIdeal.Gen.unchanged m g
  · run_from Cert.ReferenceIdeal.Gen.run_main m' g' & Cert.ReferenceIdeal.Gen.unchanged m' g'
    obtain ⟨e0, e1, e2, e3, e4, e5⟩ := hagree c
    funext i
    idx_vars i
    refine (Cert.ReferenceIdeal.Value.tail_at m' c i0 i1 i2).trans (Eq.trans ?_ (Cert.KernelIdeal.Tile.result_at m c i0 i1 i2).symm)
    rw [e0, e1, e2, e3, e4, e5]

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Algebraic.algebraic⟩

end Cert.Proof

end
